-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S128x1024x96 : Shape := ⟨3, ![128, 1024, 96]⟩
abbrev S96x32 : Shape := ⟨2, ![96, 32]⟩
abbrev S32 : Shape := ⟨1, ![32]⟩
abbrev S512x32 : Shape := ⟨2, ![512, 32]⟩
abbrev S32x96 : Shape := ⟨2, ![32, 96]⟩
abbrev S96 : Shape := ⟨1, ![96]⟩
abbrev S_ : Shape := ⟨0, ![]⟩

class Facts : Prop where
  bcast_S_S128x1024x96 : S_.BroadcastsInDim S128x1024x96 (![] : Fin 0 → Fin S128x1024x96.rank)
  reducesTo_S128x1024x96_S_d0_1_2 : S128x1024x96.ReducesTo [0, 1, 2] S_
  h_S_ : 0 < S_.numel
  bcast_S_S96x32 : S_.BroadcastsInDim S96x32 (![] : Fin 0 → Fin S96x32.rank)
  reducesTo_S96x32_S_d0_1 : S96x32.ReducesTo [0, 1] S_
  bcast_S_S32 : S_.BroadcastsInDim S32 (![] : Fin 0 → Fin S32.rank)
  reducesTo_S32_S_d0 : S32.ReducesTo [0] S_
  bcast_S_S512x32 : S_.BroadcastsInDim S512x32 (![] : Fin 0 → Fin S512x32.rank)
  reducesTo_S512x32_S_d0_1 : S512x32.ReducesTo [0, 1] S_

variable [Facts]

def fn_part1 {F : FTy → Type} [FloatOps F] (main_v13 : IVec S_ 1) (main_v16 : IVec S512x32 1) : IVec S_ 1 :=
  let main_c_5 : IVec S_ 1 := constantI S_ 1 1#1
  let main_v17 : IVec S_ 1 := (fun x v => Host.reduce IntOp.andi x v reducesTo_S512x32_S_d0_1 h_S_) main_v16 main_c_5
  let main_v18 : IVec S_ 1 := andi main_v13 main_v17
  main_v18

def fn {F : FTy → Type} [FloatOps F] (main_arg0 : FVec F S128x1024x96 .f32) (main_arg1 : FVec F S96x32 .f32) (main_arg2 : FVec F S32 .f32) (main_arg3 : FVec F S512x32 .f32) (main_arg4 : FVec F S32x96 .f32) (main_arg5 : FVec F S96 .f32) : IVec S_ 1 :=
  let main_v0 : FVec F S128x1024x96 .f32 := Host.absf main_arg0
  let main_cst : FVec F S_ .f32 := constant S_ .f32 0x7F800000#32
  let main_v1 : FVec F S128x1024x96 .f32 := broadcastInDim S128x1024x96 ![] bcast_S_S128x1024x96 main_cst
  let main_v2 : IVec S128x1024x96 1 := cmpf .olt main_v0 main_v1
  let main_c : IVec S_ 1 := constantI S_ 1 1#1
  let main_v3 : IVec S_ 1 := (fun x v => Host.reduce IntOp.andi x v reducesTo_S128x1024x96_S_d0_1_2 h_S_) main_v2 main_c
  let main_v4 : FVec F S96x32 .f32 := Host.absf main_arg1
  let main_cst_0 : FVec F S_ .f32 := constant S_ .f32 0x7F800000#32
  let main_v5 : FVec F S96x32 .f32 := broadcastInDim S96x32 ![] bcast_S_S96x32 main_cst_0
  let main_v6 : IVec S96x32 1 := cmpf .olt main_v4 main_v5
  let main_c_1 : IVec S_ 1 := constantI S_ 1 1#1
  let main_v7 : IVec S_ 1 := (fun x v => Host.reduce IntOp.andi x v reducesTo_S96x32_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S512x32 .f32 := Host.absf main_arg3
  let main_cst_4 : FVec F S_ .f32 := constant S_ .f32 0x7F800000#32
  let main_v15 : FVec F S512x32 .f32 := broadcastInDim S512x32 ![] bcast_S_S512x32 main_cst_4
  let main_v16 : IVec S512x32 1 := cmpf .olt main_v14 main_v15
  fn_part1 (F := F) main_v13 main_v16
-- ==== Kernel.lean ====
abbrev S128x1024x96 : Shape := ⟨3, ![128, 1024, 96]⟩
abbrev S96x32 : Shape := ⟨2, ![96, 32]⟩
abbrev S32 : Shape := ⟨1, ![32]⟩
abbrev S512x32 : Shape := ⟨2, ![512, 32]⟩
abbrev S32x96 : Shape := ⟨2, ![32, 96]⟩
abbrev S96 : Shape := ⟨1, ![96]⟩
abbrev S131072x96 : Shape := ⟨2, ![131072, 96]⟩
abbrev S1x32 : Shape := ⟨2, ![1, 32]⟩
abbrev S1x96 : Shape := ⟨2, ![1, 96]⟩
abbrev S1x1 : Shape := ⟨2, ![1, 1]⟩
abbrev S512x96 : Shape := ⟨2, ![512, 96]⟩
abbrev S512x512 : Shape := ⟨2, ![512, 512]⟩
abbrev S1x512 : Shape := ⟨2, ![1, 512]⟩
abbrev S512 : Shape := ⟨1, ![512]⟩
abbrev S512x1 : Shape := ⟨2, ![512, 1]⟩
abbrev S1x512x1 : Shape := ⟨3, ![1, 512, 1]⟩
abbrev S1 : Shape := ⟨1, ![1]⟩
abbrev S1x1x1 : Shape := ⟨3, ![1, 1, 1]⟩
abbrev S_ : Shape := ⟨0, ![]⟩

abbrev nBuf : Space → Nat
  | .hbm => 13
  | .vmem => 11
  | .smem => 0
  | _ => 0

abbrev bufTy : (tb : Table) → Fin (tcTables nBuf tb) → BufTy
  | .hbm, ⟨0, _⟩ => ⟨S128x1024x96, .f32⟩
  | .hbm, ⟨1, _⟩ => ⟨S96x32, .f32⟩
  | .hbm, ⟨2, _⟩ => ⟨S32, .f32⟩
  | .hbm, ⟨3, _⟩ => ⟨S512x32, .f32⟩
  | .hbm, ⟨4, _⟩ => ⟨S32x96, .f32⟩
  | .hbm, ⟨5, _⟩ => ⟨S96, .f32⟩
  | .hbm, ⟨6, _⟩ => ⟨S131072x96, .f32⟩
  | .hbm, ⟨7, _⟩ => ⟨S1x32, .f32⟩
  | .hbm, ⟨8, _⟩ => ⟨S1x96, .f32⟩
  | .hbm, ⟨9, _⟩ => ⟨S131072x96, .f32⟩
  | .hbm, ⟨10, _⟩ => ⟨S1x1, .f32⟩
  | .hbm, ⟨11, _⟩ => ⟨S128x1024x96, .f32⟩
  | .hbm, ⟨12, _⟩ => ⟨S_, .f32⟩
  | .local _ .vmem, ⟨0, _⟩ => ⟨S512x96, .f32⟩
  | .local _ .vmem, ⟨1, _⟩ => ⟨S512x96, .f32⟩
  | .local _ .vmem, ⟨2, _⟩ => ⟨S96x32, .f32⟩
  | .local _ .vmem, ⟨3, _⟩ => ⟨S1x32, .f32⟩
  | .local _ .vmem, ⟨4, _⟩ => ⟨S512x32, .f32⟩
  | .local _ .vmem, ⟨5, _⟩ => ⟨S32x96, .f32⟩
  | .local _ .vmem, ⟨6, _⟩ => ⟨S1x96, .f32⟩
  | .local _ .vmem, ⟨7, _⟩ => ⟨S512x96, .f32⟩
  | .local _ .vmem, ⟨8, _⟩ => ⟨S512x96, .f32⟩
  | .local _ .vmem, ⟨9, _⟩ => ⟨S1x1, .f32⟩
  | .local _ .vmem, ⟨10, _⟩ => ⟨S512x96, .f32⟩
  | _, _ => ⟨S128x1024x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S96x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x96 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S128x1024x96 : Shape := ⟨3, ![128, 1024, 96]⟩
abbrev S96x32 : Shape := ⟨2, ![96, 32]⟩
abbrev S32 : Shape := ⟨1, ![32]⟩
abbrev S512x32 : Shape := ⟨2, ![512, 32]⟩
abbrev S32x96 : Shape := ⟨2, ![32, 96]⟩
abbrev S96 : Shape := ⟨1, ![96]⟩
abbrev S128x1024x32 : Shape := ⟨3, ![128, 1024, 32]⟩
abbrev S1x1x32 : Shape := ⟨3, ![1, 1, 32]⟩
abbrev S131072x32 : Shape := ⟨2, ![131072, 32]⟩
abbrev S_ : Shape := ⟨0, ![]⟩
abbrev S131072 : Shape := ⟨1, ![131072]⟩
abbrev S131072x1 : Shape := ⟨2, ![131072, 1]⟩
abbrev S32x512 : Shape := ⟨2, ![32, 512]⟩
abbrev S131072x512 : Shape := ⟨2, ![131072, 512]⟩
abbrev S512 : Shape := ⟨1, ![512]⟩
abbrev S1x512 : Shape := ⟨2, ![1, 512]⟩
abbrev S1 : Shape := ⟨1, ![1]⟩
abbrev S1x1 : Shape := ⟨2, ![1, 1]⟩
abbrev S1x1x96 : Shape := ⟨3, ![1, 1, 96]⟩

abbrev nBuf : Space → Nat
  | .hbm => 82
  | .vmem => 0
  | .smem => 0
  | _ => 0

abbrev bufTy : (tb : Table) → Fin (tcTables nBuf tb) → BufTy
  | .hbm, ⟨0, _⟩ => ⟨S128x1024x96, .f32⟩
  | .hbm, ⟨1, _⟩ => ⟨S96x32, .f32⟩
  | .hbm, ⟨2, _⟩ => ⟨S32, .f32⟩
  | .hbm, ⟨3, _⟩ => ⟨S512x32, .f32⟩
  | .hbm, ⟨4, _⟩ => ⟨S32x96, .f32⟩
  | .hbm, ⟨5, _⟩ => ⟨S96, .f32⟩
  | .hbm, ⟨6, _⟩ => ⟨S128x1024x32, .f32⟩
  | .hbm, ⟨7, _⟩ => ⟨S1x1x32, .f32⟩
  | .hbm, ⟨8, _⟩ => ⟨S128x1024x32, .f32⟩
  | .hbm, ⟨9, _⟩ => ⟨S128x1024x32, .f32⟩
  | .hbm, ⟨10, _⟩ => ⟨S131072x32, .f32⟩
  | .hbm, ⟨11, _⟩ => ⟨S131072x32, .f32⟩
  | .hbm, ⟨12, _⟩ => ⟨S_, .f32⟩
  | .hbm, ⟨13, _⟩ => ⟨S131072, .f32⟩
  | .hbm, ⟨14, _⟩ => ⟨S131072x1, .f32⟩
  | .hbm, ⟨15, _⟩ => ⟨S32x512, .f32⟩
  | .hbm, ⟨16, _⟩ => ⟨S131072x512, .f32⟩
  | .hbm, ⟨17, _⟩ => ⟨S_, .f32⟩
  | .hbm, ⟨18, _⟩ => ⟨S131072x512, .f32⟩
  | .hbm, ⟨19, _⟩ => ⟨S131072x512, .f32⟩
  | .hbm, ⟨20, _⟩ => ⟨S131072x512, .f32⟩
  | .hbm, ⟨21, _⟩ => ⟨S131072x512, .f32⟩
  | .hbm, ⟨22, _⟩ => ⟨S512x32, .f32⟩
  | .hbm, ⟨23, _⟩ => ⟨S_, .f32⟩
  | .hbm, ⟨24, _⟩ => ⟨S512, .f32⟩
  | .hbm, ⟨25, _⟩ => ⟨S1x512, .f32⟩
  | .hbm, ⟨26, _⟩ => ⟨S131072x512, .f32⟩
  | .hbm, ⟨27, _⟩ => ⟨S131072x512, .f32⟩
  | .hbm, ⟨28, _⟩ => ⟨S131072x512, .i32⟩
  | .hbm, ⟨29, _⟩ => ⟨S_, .f32⟩
  | .hbm, ⟨30, _⟩ => ⟨S_, .i32⟩
  | .hbm, ⟨31, _⟩ => ⟨S131072, .f32⟩
  | .hbm, ⟨32, _⟩ => ⟨S131072, .i32⟩
  | .hbm, ⟨33, _⟩ => ⟨S_, .i32⟩
  | .hbm, ⟨34, _⟩ => ⟨S131072, .i32⟩
  | .hbm, ⟨35, _⟩ => ⟨S131072, .i1⟩
  | .hbm, ⟨36, _⟩ => ⟨S_, .i32⟩
  | .hbm, ⟨37, _⟩ => ⟨S131072, .i32⟩
  | .hbm, ⟨38, _⟩ => ⟨S131072, .i32⟩
  | .hbm, ⟨39, _⟩ => ⟨S131072, .i32⟩
  | .hbm, ⟨40, _⟩ => ⟨S131072x1, .i32⟩
  | .hbm, ⟨41, _⟩ => ⟨S1, .i32⟩
  | .hbm, ⟨42, _⟩ => ⟨S_, .i32⟩
  | .hbm, ⟨43, _⟩ => ⟨S131072x1, .i32⟩
  | .hbm, ⟨44, _⟩ => ⟨S131072x1, .i1⟩
  | .hbm, ⟨45, _⟩ => ⟨S1x1, .i32⟩
  | .hbm, ⟨46, _⟩ => ⟨S131072x1, .i32⟩
  | .hbm, ⟨47, _⟩ => ⟨S131072x1, .i1⟩
  | .hbm, ⟨48, _⟩ => ⟨S131072x1, .i1⟩
  | .hbm, ⟨49, _⟩ => ⟨S_, .i1⟩
  | .hbm, ⟨50, _⟩ => ⟨S131072, .i1⟩
  | .hbm, ⟨51, _⟩ => ⟨S131072x32, .f32⟩
  | .hbm, ⟨52, _⟩ => ⟨S131072x32, .i1⟩
  | .hbm, ⟨53, _⟩ => ⟨S_, .f32⟩
  | .hbm, ⟨54, _⟩ => ⟨S131072x32, .f32⟩
  | .hbm, ⟨55, _⟩ => ⟨S131072x32, .f32⟩
  | .hbm, ⟨56, _⟩ => ⟨S128x1024x32, .f32⟩
  | .hbm, ⟨57, _⟩ => ⟨S128x1024x32, .f32⟩
  | .hbm, ⟨58, _⟩ => ⟨S128x1024x32, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S128x1024x32, .f32⟩
  | .hbm, ⟨69, _⟩ => ⟨S128x1024x32, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S128x1024x32, .f32⟩
  | .hbm, ⟨77, _⟩ => ⟨S128x1024x32, .f32⟩
  | .hbm, ⟨78, _⟩ => ⟨S128x1024x96, .f32⟩
  | .hbm, ⟨79, _⟩ => ⟨S1x1x96, .f32⟩
  | .hbm, ⟨80, _⟩ => ⟨S128x1024x96, .f32⟩
  | .hbm, ⟨81, _⟩ => ⟨S128x1024x96, .f32⟩
  | _, _ => ⟨S128x1024x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_v0 : Ref sig .tc := ⟨.hbm, 28, rfl⟩
abbrev main_call0_cst : Ref sig .tc := ⟨.hbm, 29, rfl⟩
abbrev main_call0_c : Ref sig .tc := ⟨.hbm, 30, rfl⟩
abbrev main_call0_v1_0 : Ref sig .tc := ⟨.hbm, 31, rfl⟩
abbrev main_v19 : Ref sig .tc := ⟨.hbm, 32, rfl⟩
abbrev main_call1_c : Ref sig .tc := ⟨.hbm, 33, rfl⟩
abbrev main_call1_v0 : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_c_1 : Ref sig .tc := ⟨.hbm, 41, rfl⟩
abbrev main_call1_c_2 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_3 : Ref sig .tc := ⟨.hbm, 49, rfl⟩
abbrev main_call1_v12 : Ref sig .tc := ⟨.hbm, 50, rfl⟩
abbrev main_call1_v13 : Ref sig .tc := ⟨.hbm, 51, rfl⟩
abbrev main_call1_v14 : Ref sig .tc := ⟨.hbm, 52, rfl⟩
abbrev main_call1_cst : Ref sig .tc := ⟨.hbm, 53, rfl⟩
abbrev main_call1_v15 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_cst_2 : Ref sig .tc := ⟨.hbm, 59, rfl⟩
abbrev main_v24 : Ref sig .tc := ⟨.hbm, 60, rfl⟩
abbrev main_cst_3 : Ref sig .tc := ⟨.hbm, 61, rfl⟩
abbrev main_v25 : Ref sig .tc := ⟨.hbm, 62, rfl⟩
abbrev main_cst_4 : Ref sig .tc := ⟨.hbm, 63, rfl⟩
abbrev main_v26 : Ref sig .tc := ⟨.hbm, 64, rfl⟩
abbrev main_cst_5 : Ref sig .tc := ⟨.hbm, 65, rfl⟩
abbrev main_cst_6 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_cst_7 : Ref sig .tc := ⟨.hbm, 70, rfl⟩
abbrev main_v30 : Ref sig .tc := ⟨.hbm, 71, rfl⟩
abbrev main_cst_8 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩

abbrev nD : Nat := 1
abbrev τ : Topo := Topo.v7x

variable {F : FTy → Type} [FloatOps F]
-- ==== Proof.RefTerm.lean ====
/- What the plain model computes, as whole-array terms: the encoding, the distances, the nearest code's number, the
   looked-up codes, the loss and the reconstruction; and that its run ends with them in its two results. -/
module

public import proofs.«01_k».proof.Proof.Gen.ReferenceIdeal
public import Idealize.ShloMosaic.PureOps.Ideal
public import Idealize.ShloMosaic.Lib.Claim

@[expose] public section

set_option maxRecDepth 16384

noncomputable section

namespace Cert.ReferenceIdeal.Term

open Idealize.ShloMosaic Idealize.ShloMosaic.TcCoe Idealize.SL.Sem
open Cert.ReferenceIdeal Cert.ReferenceIdeal.Gen

/-- The encoder's output `samples @ enc_W + enc_b`. -/
def enc (X : FVec Ideal S128x1024x96 .f32) (W : FVec Ideal S96x32 .f32) (b : FVec Ideal S32 .f32) :
    FVec Ideal S128x1024x32 .f32 :=
  addf (Host.dotGeneral dot_S128x1024x96_S96x32_S128x1024x32_2_0_01_1_n_n none X W)
    (broadcastInDim S128x1024x32 ![0, 1, 2] bcast_S1x1x32_S128x1024x32_0_1_2
      (broadcastInDim S1x1x32 ![2] bcast_S32_S1x1x32_2 b))

/-- The encodings as one matrix, a row per sample. -/
def flat (z : FVec Ideal S128x1024x32 .f32) : FVec Ideal S131072x32 .f32 :=
  shapeCast S131072x32 z shapeCasts_S128x1024x32_S131072x32

/-- The squared distances of every row to every code, expanded as `|z|² - 2 z·c + |c|²`. -/
def dist (zf : FVec Ideal S131072x32 .f32) (C : FVec Ideal S512x32 .f32) : FVec Ideal S131072x512 .f32 :=
  addf
    (subf
      (broadcastInDim S131072x512 ![0, 1] bcast_S131072x1_S131072x512_0_1
        (broadcastInDim S131072x1 ![0] bcast_S131072_S131072x1_0
          (Host.reduceAdd (mulf zf zf) (constant S_ .f32 0x00000000#32) reducesTo_S131072x32_S131072_d1 h_S_)))
      (mulf (broadcastInDim S131072x512 ![] bcast_S_S131072x512 (constant S_ .f32 0x40000000#32))
        (Host.dotGeneral dot_S131072x32_S32x512_S131072x512_1_0_0_1_n_n none zf
          (transpose S32x512 [1, 0] C transposes_S512x32_S32x512_1_0))))
    (broadcastInDim S131072x512 ![0, 1] bcast_S1x512_S131072x512_0_1
      (broadcastInDim S1x512 ![1] bcast_S512_S1x512_1
        (Host.reduceAdd (mulf C C) (constant S_ .f32 0x00000000#32) reducesTo_S512x32_S512_d1 h_S_)))

/-- The positions that an arg-min keeps. -/
def argmin {s t u : Shape} {axes : List (Fin s.rank)} (x : FVec Ideal s .f32) (y : IVec s 32)
    (ix : FVec Ideal u .f32) (iy : IVec u 32) (h : s.ReducesTo axes t) (hu : 0 < u.numel) : IVec t 32 := fun j =>
  (Host.argReduce reducer_argmin_f32_i32 x y ix iy h hu j).2

/-- The number of the nearest code of each row. -/
def near (d : FVec Ideal S131072x512 .f32) : IVec S131072 32 :=
  argmin d (iotaInDim S131072x512 32 1) (constant S_ .f32 0x7F800000#32) (constantI S_ 32 0#32)
    reducesTo_S131072x512_S131072_d1 h_S_

/-- The row numbers that the look-up reads, a negative one counted from the end. -/
def rows (q : IVec S131072 32) : IVec S131072x1 32 :=
  broadcastInDim S131072x1 ![0] bcast_S131072_S131072x1_0
    (select (cmpi .slt q (broadcastInDim S131072 ![] bcast_S_S131072 (constantI S_ 32 0#32)))
      (addi q (broadcastInDim S131072 ![] bcast_S_S131072 (constantI S_ 32 512#32))) q)

/-- The looked-up codes: row `rows q` of the codebook where that number is in range, a NaN elsewhere. -/
def look (C : FVec Ideal S512x32 .f32) (q : IVec S131072 32) : FVec Ideal S131072x32 .f32 :=
  select
    (broadcastInDim S131072x32 ![0] bcast_S131072_S131072x32_0
      (Host.reduce IntOp.andi
        (andi (cmpi .sge (rows q) (broadcastInDim S131072x1 ![] bcast_S_S131072x1 (constantI S_ 32 0#32)))
          (cmpi .sle (rows q)
            (broadcastInDim S131072x1 ![0, 1] bcast_S1x1_S131072x1_0_1
              (broadcastInDim S1x1 ![1] bcast_S1_S1x1_1 (constantI S1 32 511#32)))))
        (constantI S_ 1 1#1) reducesTo_S131072x1_S131072_d1 h_S_))
    (Host.gather gather_S512x32_S131072x1_S131072x32_1_0_n_n_0_1_132 C (rows q))
    (broadcastInDim S131072x32 ![] bcast_S_S131072x32 (constant S_ .f32 0x7FC00000#32))

/-- The looked-up codes in the encodings' shape. -/
def codes (zq : FVec Ideal S131072x32 .f32) : FVec Ideal S128x1024x32 .f32 :=
  shapeCast S128x1024x32 zq shapeCasts_S131072x32_S128x1024x32

/-- The mean of the squared differences. -/
def msd (zq z : FVec Ideal S128x1024x32 .f32) : FVec Ideal S_ .f32 :=
  Host.divf
    (Host.reduceAdd (mulf (subf zq z) (subf zq z)) (constant S_ .f32 0x00000000#32)
      reducesTo_S128x1024x32_S_d0_1_2 h_S_)
    (constant S_ .f32 0x4A800000#32)

/-- The loss: the mean squared difference twice, weighted by `beta` and by `1 - beta`. -/
def loss (zq z : FVec Ideal S128x1024x32 .f32) : FVec Ideal S_ .f32 :=
  addf (mulf (constant S_ .f32 0x3F733333#32) (msd zq z))
    (mulf (subf (constant S_ .f32 0x3F800000#32) (constant S_ .f32 0x3F733333#32)) (msd zq z))

/-- The reconstruction from the straight-through encodings `z + (zq - z)`. -/
def reco (zq z : FVec Ideal S128x1024x32 .f32) (D : FVec Ideal S32x96 .f32) (e : FVec Ideal S96 .f32) :
    FVec Ideal S128x1024x96 .f32 :=
  addf (Host.dotGeneral dot_S128x1024x32_S32x96_S128x1024x96_2_0_01_1_n_n none (addf z (subf zq z)) D)
    (broadcastInDim S128x1024x96 ![0, 1, 2] bcast_S1x1x96_S128x1024x96_0_1_2
      (broadcastInDim S1x1x96 ![2] bcast_S96_S1x1x96_2 e))

/-- The codes that the model looks up for the samples. -/
def codesOf (X : FVec Ideal S128x1024x96 .f32) (W : FVec Ideal S96x32 .f32) (b : FVec Ideal S32 .f32)
    (C : FVec Ideal S512x32 .f32) : FVec Ideal S128x1024x32 .f32 :=
  codes (look C (near (dist (flat (enc X W b)) C)))

/-- The model's run: its results end at the reconstruction and the loss, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v39)
          = reco (codesOf (m ((c.tc : Thread nD τ).loc main_arg0)) (m ((c.tc : Thread nD τ).loc main_arg1))
              (m ((c.tc : Thread nD τ).loc main_arg2)) (m ((c.tc : Thread nD τ).loc main_arg3)))
            (enc (m ((c.tc : Thread nD τ).loc main_arg0)) (m ((c.tc : Thread nD τ).loc main_arg1))
              (m ((c.tc : Thread nD τ).loc main_arg2)))
            (m ((c.tc : Thread nD τ).loc main_arg4)) (m ((c.tc : Thread nD τ).loc main_arg5))
      ∧ r.2.mem ((c.tc : Thread nD τ).loc main_v33)
          = loss (codesOf (m ((c.tc : Thread nD τ).loc main_arg0)) (m ((c.tc : Thread nD τ).loc main_arg1))
              (m ((c.tc : Thread nD τ).loc main_arg2)) (m ((c.tc : Thread nD τ).loc main_arg3)))
            (enc (m ((c.tc : Thread nD τ).loc main_arg0)) (m ((c.tc : Thread nD τ).loc main_arg1))
              (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  hlo_run
  all_goals simp only [StableHlo.TRef.ofBuf_toBuf]
  all_goals simp only [StableHlo.TRef.toBuf, StableHlo.TRef.ofBuf, cast_eq]
  · rfl
  · rfl

end Cert.ReferenceIdeal.Term

end
-- ==== Proof.Plain.lean ====
/- The plain mathematics of one sample: its encoding, the squared distances to the codes, the first nearest code; the
   least distance as a least element, its position, and as a sum of squared differences over the reals. -/
module

public import Idealize.ShloMosaic.PureOps.Ideal
public import Idealize.ShloMosaic.Lib.Pointwise

@[expose] public section

set_option maxRecDepth 16384

noncomputable section

namespace Cert.Plain

open Idealize.ShloMosaic

/-- A sum of reals read as extended reals is the sum of their readings. -/
theorem sum_coe {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The encoding of one sample `x`: `x @ W + b`. -/
def enc {K L : Nat} (x : Fin K → EReal) (W : Fin K → Fin L → EReal) (b : Fin L → EReal) (l : Fin L) : EReal :=
  (∑ k, x k * W k l) + b l

/-- The squared distance of an encoding `z` to a code `c`, expanded. -/
def dist {L : Nat} (z c : Fin L → EReal) : EReal :=
  ((∑ l, z l * z l) - Ideal.ofBits .f32 0x40000000#32 * ∑ l, z l * c l) + ∑ l, c l * c l

/-- The sum of the squared differences of a code `c` and an encoding `z`. -/
def sq {L : Nat} (c z : Fin L → EReal) : EReal := ∑ l, (c l - z l) * (c l - z l)

/-- `q` is the first position at which `d` is least. -/
def First {K : Nat} (d : Fin K → EReal) (q : Fin K) : Prop := (∀ j, d q ≤ d j) ∧ ∀ j, j < q → d q < d j

/-- Some position is the first at which `d` is least. -/
theorem exists_first {K : Nat} (hK : 0 < K) (d : Fin K → EReal) : ∃ q, First d q := by
  classical
  haveI : Nonempty (Fin K) := ⟨⟨0, hK⟩⟩
  obtain ⟨a, ha⟩ := Finite.exists_min d
  have hne : (Finset.univ.filter fun j => d j = d a).Nonempty := ⟨a, by simp⟩
  refine ⟨(Finset.univ.filter fun j => d j = d a).min' hne, ?_⟩
  have hm := Finset.min'_mem _ hne
  simp only [Finset.mem_filter, Finset.mem_univ, true_and] at hm
  refine ⟨fun j => hm.le.trans (ha j), fun j hj => ?_⟩
  rw [hm]
  refine lt_of_le_of_ne (ha j) fun he => ?_
  have := Finset.min'_le _ j (by simp [he] : j ∈ Finset.univ.filter fun j => d j = d a)
  exact absurd hj (not_lt.mpr this)

/-- The first position at which `d` is least. -/
def near {K : Nat} [NeZero K] (d : Fin K → EReal) : Fin K := (exists_first (Nat.pos_of_ne_zero (NeZero.ne K)) d).choose

theorem near_first {K : Nat} [NeZero K] (d : Fin K → EReal) : First d (near d) :=
  (exists_first (Nat.pos_of_ne_zero (NeZero.ne K)) d).choose_spec

theorem First.unique {K : Nat} {d : Fin K → EReal} {p q : Fin K} (hp : First d p) (hq : First d q) : p = q := by
  rcases lt_trichotomy p q with h | h | h
  · exact absurd (hp.1 q) (not_le.mpr (hq.2 p h))
  · exact h
  · exact absurd (hq.1 p) (not_le.mpr (hp.2 q h))

/-- The least element of `d` is its value at the first nearest position. -/
theorem First.fold_min {K : Nat} {d : Fin K → EReal} {q : Fin K} (h : First d q) :
    Finset.univ.fold min ⊤ d = d q := by
  refine le_antisymm ?_ ?_
  · exact (Finset.fold_min_le _).mpr (.inr ⟨q, Finset.mem_univ _, le_rfl⟩)
  · exact (Finset.le_fold_min _).mpr ⟨le_top, fun j _ => h.1 j⟩

/-- The signed least of words that hold small numbers is the word of the least number. -/
theorem fold_minsi {ι : Type} [DecidableEq ι] (s : Finset ι) (a : ℕ) (ha : a < 2 ^ 31) (g : ι → ℕ)
    (hg : ∀ i, g i < 2 ^ 31) (f : ι → BitVec 32) (hf : ∀ i, f i = BitVec.ofNat 32 (g i)) :
    s.fold IntOp.minsi (BitVec.ofNat 32 a) f = BitVec.ofNat 32 (s.fold min a g) ∧ s.fold min a g < 2 ^ 31 := by
  induction s using Finset.induction_on with
  | empty => exact ⟨rfl, ha⟩
  | insert i s hi ih =>
    rw [Finset.fold_insert hi, Finset.fold_insert hi, ih.1, hf i]
    have h1 := hg i
    have h2 := ih.2
    refine ⟨?_, lt_of_le_of_lt (min_le_right _ _) h2⟩
    generalize s.fold min a g = y at *
    generalize g i = x at *
    have e1 : (BitVec.ofNat 32 x).toInt = x := by
      rw [BitVec.toInt_eq_toNat_cond, BitVec.toNat_ofNat]; rw [Nat.mod_eq_of_lt (by omega)]; rw [if_pos (by omega)]
    have e2 : (BitVec.ofNat 32 y).toInt = y := by
      rw [BitVec.toInt_eq_toNat_cond, BitVec.toNat_ofNat]; rw [Nat.mod_eq_of_lt (by omega)]; rw [if_pos (by omega)]
    unfold IntOp.minsi
    rw [BitVec.slt_eq_decide, e1, e2]
    by_cases hxy : x < y
    · rw [min_eq_left (by omega)]; simp [hxy]
    · rw [min_eq_right (by omega)]; simp [hxy]

/-- The least of the positions at which `d` has its least value is the first nearest position. -/
theorem First.fold_idx {d : Fin 512 → EReal} {q : Fin 512} (h : First d q) :
    Finset.univ.fold IntOp.minsi 2147483647#32
      (fun k => if d k = d q then BitVec.ofNat 32 (k : ℕ) else 512#32) = BitVec.ofNat 32 (q : ℕ) := by
  have hq := q.isLt
  have := (fold_minsi (Finset.univ : Finset (Fin 512)) 2147483647 (by norm_num)
    (fun k => if d k = d q then (k : ℕ) else 512) (fun k => by have := k.isLt; split <;> omega)
    (fun k => if d k = d q then BitVec.ofNat 32 (k : ℕ) else 512#32) (fun k => by split <;> rfl)).1
  refine this.trans (congrArg _ ?_)
  refine le_antisymm ?_ ?_
  · exact (Finset.fold_min_le _).mpr (.inr ⟨q, Finset.mem_univ _, by simp⟩)
  · refine (Finset.le_fold_min _).mpr ⟨by omega, fun k _ => ?_⟩
    split
    · rename_i he
      by_contra hlt
      exact absurd he (ne_of_gt (h.2 k (by omega)))
    · omega

/-- The two of the expanded distance is the real number 2. -/
theorem two : Ideal.ofBits .f32 0x40000000#32 = ((2 : ℝ) : EReal) := by
  simp [Ideal.ofBits, Ideal.ieee, -EReal.coe_mul]; try norm_num

/-- Between real vectors the expanded distance is the sum of the squared differences, a real. -/
theorem dist_coe {L : Nat} (z c : Fin L → ℝ) :
    dist (fun l => (z l : EReal)) (fun l => (c l : EReal)) = ((∑ l, (c l - z l) * (c l - z l) : ℝ) : EReal) := by
  unfold dist
  simp only [two, ← EReal.coe_mul, sum_coe, ← EReal.coe_sub, ← EReal.coe_add]
  congr 1
  rw [Finset.mul_sum, ← Finset.sum_sub_distrib, ← Finset.sum_add_distrib]
  exact Finset.sum_congr rfl fun l _ => by ring

/-- The sum of the squared differences of real vectors, as a real. -/
theorem sq_coe {L : Nat} (c z : Fin L → ℝ) :
    sq (fun l => (c l : EReal)) (fun l => (z l : EReal)) = ((∑ l, (c l - z l) * (c l - z l) : ℝ) : EReal) := by
  unfold sq
  simp only [← EReal.coe_sub, ← EReal.coe_mul, sum_coe]

/-- A one-hot row times a column picks the column's entry, whatever the entries are. -/
theorem onehot {K : Nat} (q : Fin K) (v : Fin K → EReal) : ∑ k, (if k = q then (1 : EReal) else 0) * v k = v q := by
  rw [Finset.sum_eq_single q]
  · simp
  · intro b _ hb; simp [hb]
  · intro h; exact absurd (Finset.mem_univ q) h

end Cert.Plain

end
-- ==== Proof.RefVal.lean ====
/- The plain model's arrays read element by element: each is the plain mathematics of the element's sample. -/
module

public import proofs.«01_k».proof.Proof.RefTerm
public import proofs.«01_k».proof.Proof.Plain
public import Idealize.ShloMosaic.Lib.Pointwise
public import Idealize.ShloMosaic.PureOps.Ideal.Laws
public import Idealize.ShloMosaic.Lib.StableHlo.Predicate
public import Idealize.ShloMosaic.Lib.Routing.Ops

@[expose] public section

set_option maxRecDepth 16384

noncomputable section

namespace Cert.ReferenceIdeal.Term

open Idealize.ShloMosaic Idealize.ShloMosaic.TcCoe Idealize.SL.Sem
open Cert.ReferenceIdeal Cert.ReferenceIdeal.Gen

/-- The encodings, an element at a time. -/
theorem enc_at (X : FVec Ideal S128x1024x96 .f32) (W : FVec Ideal S96x32 .f32) (b : FVec Ideal S32 .f32)
    (s : Fin 128) (t : Fin 1024) (l : Fin 32) :
    enc X W b (ix3 s t l)
      = Plain.enc (fun k : Fin 96 => X (ix3 s t k)) (fun k l => W (ix2 k l)) (fun l => b (ix1 l)) l := by
  pointwise [enc, Plain.enc]

/-- The encodings as a matrix. -/
theorem flat_at (z : FVec Ideal S128x1024x32 .f32) (r : Fin 131072) (l : Fin 32) :
    flat z (ix2 r l) = z (ix3 ⟨r.val / 1024, by omega⟩ ⟨r.val % 1024, by omega⟩ l) := by
  pointwise [flat]

/-- The looked-up codes in the encodings' shape. -/
theorem codes_at (z : FVec Ideal S131072x32 .f32) (s : Fin 128) (t : Fin 1024) (l : Fin 32) :
    codes z (ix3 s t l) = z (ix2 ⟨s.val * 1024 + t.val, by omega⟩ l) := by
  pointwise [codes]

/-- The distances, an element at a time. -/
theorem dist_at (z : FVec Ideal S131072x32 .f32) (C : FVec Ideal S512x32 .f32) (r : Fin 131072) (k : Fin 512) :
    dist z C (ix2 r k) = Plain.dist (fun l : Fin 32 => z (ix2 r l)) (fun l : Fin 32 => C (ix2 k l)) := by
  pointwise [dist, Plain.dist]

/-- One pair comes before another by its value, or by its position at equal values. -/
def Le (p q : Ideal .f32 × BitVec 32) : Prop :=
  (show EReal from p.1) < (show EReal from q.1) ∨ (show EReal from p.1) = (show EReal from q.1) ∧ p.2.toInt ≤ q.2.toInt

theorem Le.refl (p : Ideal .f32 × BitVec 32) : Le p p := .inr ⟨rfl, le_rfl⟩

theorem Le.trans {p q r : Ideal .f32 × BitVec 32} (h : Le p q) (h' : Le q r) : Le p r := by
  rcases h with h | ⟨h, i⟩ <;> rcases h' with h' | ⟨h', i'⟩
  · exact .inl (h.trans h')
  · exact .inl (h.trans_eq h')
  · exact .inl (h.trans_lt h')
  · exact .inr ⟨h.trans h', i.trans i'⟩

/-- The reduction's body keeps one of its two pairs, and that pair comes before both. -/
theorem reducer_le (p q : Ideal .f32 × BitVec 32) :
    (reducer_argmin_f32_i32 p q = p ∨ reducer_argmin_f32_i32 p q = q)
      ∧ Le (reducer_argmin_f32_i32 p q) p ∧ Le (reducer_argmin_f32_i32 p q) q := by
  obtain ⟨a, i⟩ := p
  obtain ⟨b, j⟩ := q
  have key : reducer_argmin_f32_i32 ((a, i) : Ideal .f32 × BitVec 32) (b, j)
      = if (show EReal from a) < b ∨ (show EReal from a) = b ∧ i.toInt < j.toInt then (a, i) else (b, j) := by
    unfold reducer_argmin_f32_i32
    simp only [Ideal.cmpf_def, Ideal.cmp_olt, Ideal.cmp_une, Ideal.cmp_oeq, IntOp.cmpi, BitVec.slt_eq_decide]
    by_cases h1 : (show EReal from a) < b <;> by_cases h2 : (show EReal from a) = b <;> by_cases h3 : i.toInt < j.toInt
    all_goals simp [h1, h2, h3, Scalar.select, IntOp.ori, IntOp.andi]
  rw [key]
  split
  · rename_i h
    refine ⟨.inl rfl, Le.refl _, ?_⟩
    rcases h with h | ⟨h, h'⟩
    · exact .inl h
    · exact .inr ⟨h, h'.le⟩
  · rename_i h
    push Not at h
    refine ⟨.inr rfl, ?_, Le.refl _⟩
    rcases lt_or_eq_of_le h.1 with h1 | h1
    · exact .inl h1
    · exact .inr ⟨h1, h.2 h1.symm⟩

/-- The fold over a list of pairs ends with the start or a member, and that pair comes before all of them. -/
theorem foldl_le (L : List (Ideal .f32 × BitVec 32)) (a : Ideal .f32 × BitVec 32) :
    (L.foldl reducer_argmin_f32_i32 a = a ∨ L.foldl reducer_argmin_f32_i32 a ∈ L)
      ∧ Le (L.foldl reducer_argmin_f32_i32 a) a ∧ ∀ p ∈ L, Le (L.foldl reducer_argmin_f32_i32 a) p := by
  induction L generalizing a with
  | nil => exact ⟨.inl rfl, Le.refl _, fun p hp => absurd hp List.not_mem_nil⟩
  | cons b L ih =>
    obtain ⟨h1, h2, h3⟩ := ih (reducer_argmin_f32_i32 a b)
    obtain ⟨g1, g2, g3⟩ := reducer_le a b
    rw [List.foldl_cons]
    refine ⟨?_, h2.trans g2, fun p hp => ?_⟩
    · rcases h1 with h1 | h1
      · rcases g1 with g1 | g1
        · exact .inl (h1.trans g1)
        · exact .inr (by rw [h1, g1]; exact List.mem_cons_self)
      · exact .inr (List.mem_cons_of_mem _ h1)
    · rcases List.mem_cons.mp hp with rfl | hp
      · exact h2.trans g3
      · exact h3 p hp

theorem toInt_small (k : ℕ) (h : k < 2 ^ 31) : (BitVec.ofNat 32 k).toInt = k := by
  rw [BitVec.toInt_eq_toNat_cond, BitVec.toNat_ofNat]; rw [Nat.mod_eq_of_lt (by omega)]; rw [if_pos (by omega)]

/-- An arg-min over the 512 elements that drop to one result index is the first position at which they are least, that
    least value being below the start. -/
theorem argmin_at {s t u : Shape} {axes : List (Fin s.rank)} (x : FVec Ideal s .f32) (y : IVec s 32)
    (ix : FVec Ideal u .f32) (iy : IVec u 32) (h : s.ReducesTo axes t) (hu : 0 < u.numel) (j : t.Idx)
    (idx : Fin 512 → s.Idx) (hidx : ∀ i, h.drop i = j ↔ ∃ k, i = idx k) (hy : ∀ k, y (idx k) = BitVec.ofNat 32 k.val)
    (q : Fin 512) (hq : Plain.First (fun k : Fin 512 => (x (idx k) : EReal)) q)
    (hfin : (x (idx q) : EReal) < ix (Shape.Idx.first hu)) :
    argmin x y ix iy h hu j = BitVec.ofNat 32 q.val := by
  unfold argmin
  rw [Ideal.argReduce_eq_reduce2, Host.reduce2_eq_foldl_fiber]
  have hmem : ∀ p, p ∈ Host.argReduceFiber x y h j ↔ ∃ k : Fin 512, p = (x (idx k), BitVec.ofNat 32 k.val) := by
    intro p
    unfold Host.argReduceFiber
    simp only [List.mem_map, List.mem_filter, List.mem_finRange, true_and, decide_eq_true_eq, hidx]
    constructor
    · rintro ⟨n, ⟨k, hk⟩, rfl⟩
      exact ⟨k, by rw [hk, hy]⟩
    · rintro ⟨k, rfl⟩
      exact ⟨s.rowMajor (idx k), ⟨k, by simp⟩, by simp [hy]⟩
  generalize Host.argReduceFiber x y h j = L at hmem
  obtain ⟨h1, -, h3⟩ := foldl_le L (ix (Shape.Idx.first hu), iy (Shape.Idx.first hu))
  generalize L.foldl reducer_argmin_f32_i32 (ix (Shape.Idx.first hu), iy (Shape.Idx.first hu)) = R at *
  have hRq := h3 _ ((hmem _).mpr ⟨q, rfl⟩)
  rcases h1 with h1 | h1
  · exfalso
    subst h1
    rcases hRq with h | ⟨h, -⟩
    · exact absurd (h.trans hfin) (lt_irrefl _)
    · exact absurd hfin (not_lt.mpr (le_of_eq h))
  · obtain ⟨k, rfl⟩ := (hmem _).mp h1
    have hkq : k = q := by
      rcases hRq with h | ⟨h, h'⟩
      · exact absurd (hq.1 k) (not_le.mpr h)
      · have hk := k.isLt
        have hq' := q.isLt
        dsimp only at h h'
        rw [toInt_small _ (by omega), toInt_small _ (by omega)] at h'
        rcases lt_or_eq_of_le (show k ≤ q by rw [Fin.le_def]; omega) with h2 | h2
        · exact absurd (hq.2 k h2) (not_lt.mpr (le_of_eq h))
        · exact h2
    rw [hkq]

/-- The nearest code's number is the first position at which the row's distances are least, those being finite. -/
theorem near_at (d : FVec Ideal S131072x512 .f32) (r : Fin 131072) (q : Fin 512)
    (hq : Plain.First (fun k : Fin 512 => (d (ix2 r k) : EReal)) q) (hfin : (d (ix2 r q) : EReal) < ⊤) :
    near d (ix1 r) = BitVec.ofNat 32 q.val := by
  unfold near
  refine argmin_at d _ _ _ _ _ (ix1 r) (fun k : Fin 512 => ix2 r k) (fun i => ?_) (fun k => ?_) q hq ?_
  · idx_vars i
    have hd : reducesTo_S131072x512_S131072_d1.drop (ix2 i0 i1) = ix1 i0 := by
      funext b
      have hb : b = 0 := Subsingleton.elim _ _
      subst hb
      exact Fin.ext (Shape.ReducesTo.drop_apply_val_of_eq _ (ix2 i0 i1 : S131072x512.Idx) 0 0)
    rw [hd]
    constructor
    · intro h
      have : i0 = r := congrFun h 0
      exact ⟨i1, by rw [this]⟩
    · rintro ⟨k, hk⟩
      have : i0 = r := congrFun hk 0
      rw [this]
  · pointwise
  · have : (constant S_ .f32 0x7F800000#32 : FVec Ideal S_ .f32) (Shape.Idx.first h_S_) = (⊤ : EReal) := by
      pointwise
      simp [Ideal.ofBits, Ideal.ieee]
    rw [this]
    exact hfin

/-- A small row number is read as it is. -/
theorem rows_at (q : IVec S131072 32) (r : Fin 131072) (k : Fin 512) (h : q (ix1 r) = BitVec.ofNat 32 k.val) :
    rows q (ix2 r 0) = BitVec.ofNat 32 k.val := by
  pointwise [rows, h]
  have hk := k.isLt
  have : IntOp.cmpi .slt (BitVec.ofNat 32 k.val) 0#32 = 0#1 := by
    simp only [IntOp.cmpi, BitVec.slt_eq_decide, toInt_small _ (show k.val < 2 ^ 31 by omega)]
    rw [show (0#32).toInt = 0 from rfl, decide_eq_false (by omega)]; rfl
  rw [this]; rfl

/-- The look-up reads the row of the code's number. -/
theorem look_at (C : FVec Ideal S512x32 .f32) (q : IVec S131072 32) (r : Fin 131072) (l : Fin 32) (k : Fin 512)
    (h : q (ix1 r) = BitVec.ofNat 32 k.val) : look C q (ix2 r l) = C (ix2 k l) := by
  have hk := k.isLt
  have hr := rows_at q r k h
  have hg := Routing.gather_row gather_S512x32_S131072x1_S131072x32_1_0_n_n_0_1_132 rfl rfl rfl rfl rfl C (rows q) r l k hr (by norm_num)
  have h1 : IntOp.cmpi .sge (BitVec.ofNat 32 k.val) 0#32 = 1#1 := by
    simp only [IntOp.cmpi, BitVec.sle_eq_decide, toInt_small _ (show k.val < 2 ^ 31 by omega)]
    rw [decide_eq_true (by rw [show (0#32).toInt = 0 from rfl]; omega)]; rfl
  have h2 : IntOp.cmpi .sle (BitVec.ofNat 32 k.val) 511#32 = 1#1 := by
    simp only [IntOp.cmpi, BitVec.sle_eq_decide, toInt_small _ (show k.val < 2 ^ 31 by omega)]
    rw [decide_eq_true (by rw [show (511#32).toInt = 511 from rfl]; omega)]; rfl
  have hf : ∀ x : Fin 1, IntOp.andi (IntOp.cmpi .sge (rows q (ix2 r x)) 0#32) (IntOp.cmpi .sle (rows q (ix2 r x)) 511#32)
      = 1#1 := fun x => by rw [Subsingleton.elim x 0, hr, h1, h2]; rfl
  pointwise [look]
  simp only [hf]
  refine Eq.trans ?_ hg
  refine Scalar.select_of_eq_one ?_ _ _
  simp [IntOp.andi]

/-- Adding a vector's difference from a real to that real gives the vector's value. -/
theorem through (z : ℝ) (q : EReal) : (z : EReal) + (q - z) = q := by
  induction q with
  | bot => simp
  | top => simp
  | coe q => rw [← EReal.coe_sub, ← EReal.coe_add]; congr 1; ring

/-- The reconstruction decodes the looked-up codes, the encodings being real. -/
theorem reco_at (zq z : FVec Ideal S128x1024x32 .f32) (D : FVec Ideal S32x96 .f32) (e : FVec Ideal S96 .f32)
    (s : Fin 128) (t : Fin 1024) (j : Fin 96) (zr : Fin 32 → ℝ) (hz : ∀ l : Fin 32, z (ix3 s t l) = ((zr l : ℝ) : EReal)) :
    reco zq z D e (ix3 s t j)
      = Plain.enc (fun l : Fin 32 => zq (ix3 s t l)) (fun l j => D (ix2 l j)) (fun j => e (ix1 j)) j := by
  pointwise [reco, Plain.enc]
  refine congrArg₂ (· + ·) (Finset.sum_congr rfl fun l _ => ?_) rfl
  rw [hz l, through]

/-- The loss of real squared differences is their sum times 2⁻²². -/
theorem loss_at (zq z : FVec Ideal S128x1024x32 .f32) (S : ℝ)
    (hS : ∑ s : Fin 128, ∑ t : Fin 1024, Plain.sq (fun l : Fin 32 => zq (ix3 s t l)) (fun l => z (ix3 s t l)) = (S : EReal)) :
    loss zq z ix0 = ((S * (1 / 4194304) : ℝ) : EReal) := by
  have hm : msd zq z ix0 = ((S * (1 / 4194304) : ℝ) : EReal) := by
    pointwise [msd]
    unfold Plain.sq at hS
    rw [hS]
    have : Ideal.ofBits .f32 0x4A800000#32 = ((4194304 : ℝ) : EReal) := by
      simp [Ideal.ofBits, Ideal.ieee, -EReal.coe_mul]; try norm_num
    rw [this, Ideal.div_coe (by norm_num), ← EReal.coe_mul]
  obtain ⟨b, hb⟩ : ∃ b : ℝ, Ideal.ofBits .f32 0x3F733333#32 = (b : EReal) := by
    simp only [Ideal.ofBits, Ideal.ieee]
    rw [if_neg (by decide), if_neg (by decide)]
    exact ⟨_, rfl⟩
  pointwise [loss]
  rw [hm, hb, ← EReal.coe_one, ← EReal.coe_sub, ← EReal.coe_mul, ← EReal.coe_mul, ← EReal.coe_add]
  congr 1
  ring

end Cert.ReferenceIdeal.Term

end
-- ==== Proof.RefFin.lean ====
/- The plain model's two results from real inputs, row by row. -/
module

public import proofs.«01_k».proof.Proof.RefVal
public import Idealize.ShloMosaic.Lib.Pointwise.Sums

@[expose] public section

set_option maxRecDepth 16384

noncomputable section

namespace Cert.ReferenceIdeal.Term

open Idealize.ShloMosaic Idealize.ShloMosaic.TcCoe Idealize.SL.Sem
open Cert.ReferenceIdeal

/-- Every element is a real number. -/
def Reals {s : Shape} (x : FVec Ideal s .f32) : Prop := ∀ i, ∃ r : ℝ, (x i : EReal) = (r : EReal)

variable (X : FVec Ideal S128x1024x96 .f32) (W : FVec Ideal S96x32 .f32) (b : FVec Ideal S32 .f32)
  (C : FVec Ideal S512x32 .f32) (D : FVec Ideal S32x96 .f32) (e : FVec Ideal S96 .f32)

/-- The encoding of row `r`. -/
def zrow (r : Fin 131072) : Fin 32 → EReal :=
  Plain.enc (fun k : Fin 96 => X (ix3 ⟨r.val / 1024, by omega⟩ ⟨r.val % 1024, by omega⟩ k))
    (fun k l => W (ix2 k l)) (fun l => b (ix1 l))

/-- The distances of row `r` to the codes. -/
def drow (r : Fin 131072) : Fin 512 → EReal := fun k => Plain.dist (zrow X W b r) (fun l : Fin 32 => C (ix2 k l))

variable {X W b C}

/-- The encodings are real. -/
theorem zrow_real (hX : Reals X) (hW : Reals W) (hb : Reals b) :
    ∃ zr : Fin 131072 → Fin 32 → ℝ, ∀ r, zrow X W b r = fun l => (zr r l : EReal) := by
  choose xr hx using hX
  choose wr hw using hW
  choose br hb using hb
  refine ⟨fun r l => (∑ k : Fin 96, xr (ix3 ⟨r.val / 1024, by omega⟩ ⟨r.val % 1024, by omega⟩ k) * wr (ix2 k l)) + br (ix1 l),
    fun r => ?_⟩
  funext l
  simp only [zrow, Plain.enc, hx, hw, hb, ← EReal.coe_mul, Plain.sum_coe, ← EReal.coe_add]

/-- The codes are real. -/
theorem code_real (hC : Reals C) :
    ∃ cr : Fin 512 → Fin 32 → ℝ, ∀ k, (fun l : Fin 32 => (C (ix2 k l) : EReal)) = fun l => (cr k l : EReal) := by
  choose cr hc using hC
  exact ⟨fun k l => cr (ix2 k l), fun k => funext fun l => hc _⟩

/-- The plain model's distances are the rows' distances. -/
theorem dist_row (r : Fin 131072) (k : Fin 512) :
    (dist (flat (enc X W b)) C (ix2 r k) : EReal) = drow X W b C r k := by
  refine (dist_at _ _ r k).trans ?_
  simp only [flat_at, enc_at]
  rfl

/-- The plain model's code numbers are those of the first nearest codes. -/
theorem near_row (hX : Reals X) (hW : Reals W) (hb : Reals b) (hC : Reals C) (r : Fin 131072) :
    near (dist (flat (enc X W b)) C) (ix1 r) = BitVec.ofNat 32 (Plain.near (drow X W b C r)).val := by
  obtain ⟨zr, hz⟩ := zrow_real hX hW hb
  obtain ⟨cr, hc⟩ := code_real hC
  refine near_at _ r _ ?_ ?_
  · simp only [dist_row]
    exact Plain.near_first _
  · rw [dist_row]
    simp only [drow]
    rw [hz, hc, Plain.dist_coe]
    exact EReal.coe_lt_top _

/-- The looked-up codes are the rows' first nearest codes. -/
theorem codes_row (hX : Reals X) (hW : Reals W) (hb : Reals b) (hC : Reals C) (s : Fin 128) (t : Fin 1024) (l : Fin 32) :
    codesOf X W b C (ix3 s t l)
      = C (ix2 (Plain.near (drow X W b C ⟨s.val * 1024 + t.val, by omega⟩)) l) :=
  (codes_at _ s t l).trans (look_at _ _ _ l _ (near_row hX hW hb hC _))

/-- The encodings in their own shape, as rows. -/
theorem enc_row (s : Fin 128) (t : Fin 1024) (l : Fin 32) :
    enc X W b (ix3 s t l) = zrow X W b ⟨s.val * 1024 + t.val, by omega⟩ l := by
  refine (enc_at X W b s t l).trans ?_
  unfold zrow
  have hs : (⟨(s.val * 1024 + t.val) / 1024, by omega⟩ : Fin 128) = s := Fin.ext (by simp only; omega)
  have ht : (⟨(s.val * 1024 + t.val) % 1024, by omega⟩ : Fin 1024) = t := Fin.ext (by simp only; omega)
  simp only [hs, ht]

/-- The reconstruction is the decoding of the row's first nearest code. -/
theorem reco_row (hX : Reals X) (hW : Reals W) (hb : Reals b) (hC : Reals C) (s : Fin 128) (t : Fin 1024) (j : Fin 96) :
    reco (codesOf X W b C) (enc X W b) D e (ix3 s t j)
      = Plain.enc (fun l : Fin 32 => C (ix2 (Plain.near (drow X W b C ⟨s.val * 1024 + t.val, by omega⟩)) l))
          (fun l j => D (ix2 l j)) (fun j => e (ix1 j)) j := by
  obtain ⟨zr, hz⟩ := zrow_real hX hW hb
  refine (reco_at _ _ D e s t j (zr ⟨s.val * 1024 + t.val, by omega⟩) fun l => ?_).trans ?_
  · rw [enc_row, hz]
  · simp only [codes_row hX hW hb hC]

/-- The constant by which the kernel multiplies, one over the number of elements. -/
theorem scale : Ideal.ofBits .f32 0x34800000#32 = ((1 / 4194304 : ℝ) : EReal) := by
  simp [Ideal.ofBits, Ideal.ieee, -EReal.coe_mul]; try norm_num

/-- The loss is the sum, over tiles of 512 rows, of the scaled sums of the distances to the first nearest codes. -/
theorem loss_row (hX : Reals X) (hW : Reals W) (hb : Reals b) (hC : Reals C) (N : ℕ) (hN : N = 256) :
    loss (codesOf X W b C) (enc X W b) ix0
      = ∑ p : Fin N, (∑ r : Fin 512,
          drow X W b C ⟨p.val * 512 + r.val, by omega⟩ (Plain.near (drow X W b C ⟨p.val * 512 + r.val, by omega⟩)))
            * Ideal.ofBits .f32 0x34800000#32 := by
  subst hN
  obtain ⟨zr, hz⟩ := zrow_real hX hW hb
  obtain ⟨cr, hc⟩ := code_real hC
  obtain ⟨g, hg⟩ : ∃ g : Fin 131072 → ℝ, g = fun r =>
      ∑ l, (cr (Plain.near (drow X W b C r)) l - zr r l) * (cr (Plain.near (drow X W b C r)) l - zr r l) := ⟨_, rfl⟩
  have hd : ∀ r, drow X W b C r (Plain.near (drow X W b C r)) = ((g r : ℝ) : EReal) := fun r => by
    have : ∀ k, drow X W b C r k = ((∑ l, (cr k l - zr r l) * (cr k l - zr r l) : ℝ) : EReal) := fun k => by
      simp only [drow]
      rw [hz, hc, Plain.dist_coe]
    rw [this, hg]
  refine (loss_at _ _ (∑ r, g r) ?_).trans ?_
  · rw [Fin.sum_univ_tiles 128 1024 (by norm_num) g, ← Plain.sum_coe]
    refine Finset.sum_congr rfl fun s _ => ?_
    rw [← Plain.sum_coe]
    refine Finset.sum_congr rfl fun t _ => ?_
    simp only [codes_row hX hW hb hC, enc_row]
    rw [hc, hz, Plain.sq_coe, hg]
  · simp only [hd, scale, Plain.sum_coe, ← EReal.coe_mul]
    rw [Fin.sum_univ_tiles 256 512 (by norm_num) g, Finset.sum_mul]

end Cert.ReferenceIdeal.Term

end
-- ==== Proof.KerPay.lean ====
/- What one grid point of the kernel computes, read element by element. -/
module

public import proofs.«01_k».proof.Proof.Gen.KernelIdeal.Skeleton
public import proofs.«01_k».proof.Proof.Plain
public import Idealize.ShloMosaic.Lib.Pointwise
public import Idealize.ShloMosaic.PureOps.Ideal.Laws

@[expose] public section

set_option maxRecDepth 16384

noncomputable section

namespace Cert.KernelIdeal.Pay

open Idealize.ShloMosaic Idealize.ShloMosaic.TcCoe Idealize.SL.Sem
open Cert.KernelIdeal Cert.KernelIdeal.Gen

/-- A point's distances: of each of its rows to each code. -/
theorem dist_at (x : FVec Ideal S512x96 .f32) (W : FVec Ideal S96x32 .f32) (b : FVec Ideal S1x32 .f32)
    (C : FVec Ideal S512x32 .f32) (r k : Fin 512) :
    k0_pay5 (F := Ideal) x W b C (ix2 r k)
      = Plain.dist (Plain.enc (fun k : Fin 96 => x (ix2 r k)) (fun k l => W (ix2 k l)) (fun l : Fin 32 => b (ix2 0 l)))
          (fun l : Fin 32 => C (ix2 k l)) := by
  pointwise [k0_pay5, Plain.dist, Plain.enc]

/-- The top element, as the reduction's start. -/
theorem inf : Ideal.ofBits .f32 0x7F800000#32 = ⊤ := by simp [Ideal.ofBits, Ideal.ieee]

/-- A row's least distance is its distance to the first nearest code. -/
theorem min_at (x : FVec Ideal S512x96 .f32) (W : FVec Ideal S96x32 .f32) (b : FVec Ideal S1x32 .f32)
    (C : FVec Ideal S512x32 .f32) (r q : Fin 512)
    (hq : Plain.First (fun k : Fin 512 => (k0_pay5 (F := Ideal) x W b C (ix2 r k) : EReal)) q) :
    k0_pay6 (F := Ideal) x W b C (ix2 r 0) = k0_pay5 (F := Ideal) x W b C (ix2 r q) := by
  pointwise [k0_pay6]
  rw [inf]
  exact hq.fold_min

/-- A row's code number is the first nearest code's. -/
theorem near_at (x : FVec Ideal S512x96 .f32) (W : FVec Ideal S96x32 .f32) (b : FVec Ideal S1x32 .f32)
    (C : FVec Ideal S512x32 .f32) (r q : Fin 512)
    (hq : Plain.First (fun k : Fin 512 => (k0_pay5 (F := Ideal) x W b C (ix2 r k) : EReal)) q) :
    k0_pay7 (F := Ideal) x W b C (ix2 r 0) = BitVec.ofNat 32 q.val := by
  have hm := min_at x W b C r q hq
  pointwise [k0_pay7]
  simp only [hm]
  exact hq.fold_idx

/-- The decoded codebook: each code decoded. -/
theorem dec_at (C : FVec Ideal S512x32 .f32) (D : FVec Ideal S32x96 .f32) (e : FVec Ideal S1x96 .f32) (r : Fin 512)
    (j : Fin 96) :
    k0_pay3 (F := Ideal) C D e (ix2 r j)
      = Plain.enc (fun l : Fin 32 => C (ix2 r l)) (fun l j => D (ix2 l j)) (fun j : Fin 96 => e (ix2 0 j)) j := by
  pointwise [k0_pay3, Plain.enc]

/-- The one-hot row of a code number times the table is the table's row of that number. -/
theorem out_at (q : IVec S512x1 32) (T : FVec Ideal S512x96 .f32) (r : Fin 512) (j : Fin 96) (k : Fin 512)
    (hk : q (ix2 r 0) = BitVec.ofNat 32 k.val) :
    k0_pay2 (F := Ideal) (iota .tc S512x512 32 [1] iota_S512x512_d1_w32) q T (ix2 r j) = T (ix2 k j) := by
  pointwise [k0_pay2, hk]
  refine Eq.trans (Finset.sum_congr rfl fun x _ => ?_) (Plain.onehot k fun x => T (ix2 x j))
  refine congrArg (· * _) ?_
  have hx := x.isLt
  have hk' := k.isLt
  by_cases h : x = k
  · subst h
    have : IntOp.cmpi .eq (BitVec.ofNat 32 x.val) (BitVec.ofNat 32 x.val) = 1#1 := IntOp.cmpi_eq_self _
    rw [this, if_pos rfl]
    change (((BitVec.setWidth 32 1#1).toInt : ℝ) : EReal) = 1
    rw [show (BitVec.setWidth 32 1#1).toInt = 1 from rfl]; simp
  · have : IntOp.cmpi .eq (BitVec.ofNat 32 x.val) (BitVec.ofNat 32 k.val) = 0#1 := by
      have hne : BitVec.ofNat 32 x.val ≠ BitVec.ofNat 32 k.val := fun e => h (Fin.ext (by
        have := congrArg BitVec.toNat e
        rw [BitVec.toNat_ofNat, BitVec.toNat_ofNat] at this
        omega))
      simp only [IntOp.cmpi, beq_eq_false_iff_ne.mpr hne]; rfl
    rw [this, if_neg h]
    change (((BitVec.setWidth 32 0#1).toInt : ℝ) : EReal) = 0
    rw [show (BitVec.setWidth 32 0#1).toInt = 0 from rfl]; simp

/-- A point's loss: what came before plus the point's row minima times 2⁻²². -/
theorem loss_at (v : FVec Ideal S1x1 .f32) (w : FVec Ideal S1x512x1 .f32) :
    k0_pay1 (F := Ideal) v w (ix2 0 0)
      = v (ix2 0 0) + (∑ r : Fin 512, w (ix3 0 r 0)) * Ideal.ofBits .f32 0x34800000#32 := by
  pointwise [k0_pay1]
  refine congrArg (fun a => v (ix2 0 0) + a * _) (Finset.sum_congr rfl fun r _ => ?_)
  exact Fin.sum_univ_one fun x : Fin 1 => w (ix3 0 r x)

/-- The row minima as a box. -/
theorem box_at (x : FVec Ideal S512x96 .f32) (W : FVec Ideal S96x32 .f32) (b : FVec Ideal S1x32 .f32)
    (C : FVec Ideal S512x32 .f32) (r : Fin 512) :
    k0_pay9 (F := Ideal) x W b C (ix3 0 r 0) = k0_pay6 (F := Ideal) x W b C (ix2 r 0) := by
  pointwise [k0_pay9]

/-- The loss starts at zero. -/
theorem zero_at : k0_pay4 (F := Ideal) (ix2 0 0) = (0 : EReal) := by
  pointwise [k0_pay4]

/-- The loss read back as it is. -/
theorem pass (v : FVec Ideal S1x1 .f32) : k0_pay8 (F := Ideal) v = v := by
  unfold k0_pay8
  funext i
  pointwise

end Cert.KernelIdeal.Pay

end
-- ==== Proof.KerVal.lean ====
/- The kernel's run, point by point: the table it keeps, the block of rows it writes and the loss it adds up. -/
module

public import proofs.«01_k».proof.Proof.Gen.KernelIdeal.Frame
public import proofs.«01_k».proof.Proof.KerPay
public import Idealize.ShloMosaic.Lib.Pointwise
public import Idealize.ShloMosaic.Lib.Claim
public import Idealize.ShloMosaic.Lib.Pipeline.ValueKit
public import Idealize.ShloMosaic.Lib.Pipeline.ReadBack
public import proofs.«01_k».proof.Proof.Plain

@[expose] public section

set_option maxRecDepth 16384

noncomputable section

namespace Cert.KernelIdeal.Val

open Idealize.ShloMosaic Idealize.ShloMosaic.TcCoe Idealize.SL.Sem
open Idealize.ShloMosaic.Pipeline (Dat Cfg Window)
open Cert.KernelIdeal Cert.KernelIdeal.Gen

variable (m : (ℓ : Loc nD τ sig) → Buf (Elt Ideal) ℓ) (c : Dev nD)

/-- Where the grid's points find their blocks. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![t.val, 0]
    ∧ win0_7.index t = ![0, 0] :=
  (by decide +kernel : ∀ t : Fin grid0.N, _)

/-- The flattened samples: row `r` is sample `r / 1024`, position `r % 1024`. -/
theorem V_v0 (r : Fin 131072) (k : Fin 96) :
    V m c main_v0 (ix2 r k)
      = m ((c.tc : Thread nD τ).loc main_arg0) (ix3 ⟨r.val / 1024, by omega⟩ ⟨r.val % 1024, by omega⟩ k) := by
  unfold V V0
  simp only [List.flatten_cons, List.flatten_nil, List.append_nil]
  entry_read
  pointwise

/-- The encoder's bias as a row. -/
theorem V_v1 (l : Fin 32) : V m c main_v1 (ix2 0 l) = m ((c.tc : Thread nD τ).loc main_arg2) (ix1 l) := by
  unfold V V0
  simp only [List.flatten_cons, List.flatten_nil, List.append_nil]
  entry_read
  pointwise

/-- The decoder's bias as a row. -/
theorem V_v2 (l : Fin 96) : V m c main_v2 (ix2 0 l) = m ((c.tc : Thread nD τ).loc main_arg5) (ix1 l) := by
  unfold V V0
  simp only [List.flatten_cons, List.flatten_nil, List.append_nil]
  entry_read
  pointwise

/-- The encoding of row `r`. -/
def zrow (r : Fin 131072) : Fin 32 → EReal :=
  Plain.enc (fun k : Fin 96 => m ((c.tc : Thread nD τ).loc main_arg0) (ix3 ⟨r.val / 1024, by omega⟩ ⟨r.val % 1024, by omega⟩ k))
    (fun k l => m ((c.tc : Thread nD τ).loc main_arg1) (ix2 k l)) (fun l => m ((c.tc : Thread nD τ).loc main_arg2) (ix1 l))

/-- Code `k`. -/
def code (k : Fin 512) : Fin 32 → EReal := fun l => m ((c.tc : Thread nD τ).loc main_arg3) (ix2 k l)

/-- The distances of row `r` to the codes. -/
def drow (r : Fin 131072) : Fin 512 → EReal := fun k => Plain.dist (zrow m c r) (code m c k)

/-- The decoding of code `k`. -/
def dec (k : Fin 512) : Fin 96 → EReal :=
  Plain.enc (code m c k) (fun l j => m ((c.tc : Thread nD τ).loc main_arg4) (ix2 l j))
    (fun j => m ((c.tc : Thread nD τ).loc main_arg5) (ix1 j))

theorem lt256 (t : Fin cfg0.N) : t.val < 256 := lt_of_lt_of_eq t.isLt N_0

/-- The row of the flattened samples at which point `t`'s block has its row `r`. -/
def row (t : Fin cfg0.N) (r : Fin 512) : Fin 131072 := ⟨t.val * 512 + r.val, by have := lt256 t; omega⟩

theorem blk0 (t : Fin cfg0.N) (r : Fin 512) (k : Fin 96) :
    iblk m c 0 t (ix2 r k)
      = m ((c.tc : Thread nD τ).loc main_arg0)
        (ix3 ⟨(row t r).val / 1024, by omega⟩ ⟨(row t r).val % 1024, by omega⟩ k) := by
  refine Eq.trans (b := V m c main_v0 (ix2 (row t r) k)) ?_ (V_v0 m c _ k)
  blk_ext [iblk, idx t, row]

theorem blk1 (t : Fin cfg0.N) (r : Fin 96) (k : Fin 32) :
    iblk m c 1 t (ix2 r k) = m ((c.tc : Thread nD τ).loc main_arg1) (ix2 r k) := by
  blk_ext [iblk, V, idx t]

theorem blk2 (t : Fin cfg0.N) (k : Fin 32) :
    iblk m c 2 t (ix2 0 k) = m ((c.tc : Thread nD τ).loc main_arg2) (ix1 k) := by
  refine Eq.trans (b := V m c main_v1 (ix2 0 k)) ?_ (V_v1 m c k)
  blk_ext [iblk, idx t]

theorem blk3 (t : Fin cfg0.N) (r : Fin 512) (k : Fin 32) :
    iblk m c 3 t (ix2 r k) = m ((c.tc : Thread nD τ).loc main_arg3) (ix2 r k) := by
  blk_ext [iblk, V, idx t]

theorem blk4 (t : Fin cfg0.N) (r : Fin 32) (k : Fin 96) :
    iblk m c 4 t (ix2 r k) = m ((c.tc : Thread nD τ).loc main_arg4) (ix2 r k) := by
  blk_ext [iblk, V, idx t]

theorem blk5 (t : Fin cfg0.N) (k : Fin 96) :
    iblk m c 5 t (ix2 0 k) = m ((c.tc : Thread nD τ).loc main_arg5) (ix1 k) := by
  refine Eq.trans (b := V m c main_v2 (ix2 0 k)) ?_ (V_v2 m c k)
  blk_ext [iblk, idx t]

/-- Point `t`'s distances are the rows' distances. -/
theorem dist_blk (t : Fin cfg0.N) (r k : Fin 512) :
    k0_pay5 (F := Ideal) (iblk m c 0 t) (iblk m c 1 t) (iblk m c 2 t) (iblk m c 3 t) (ix2 r k) = drow m c (row t r) k := by
  refine (Pay.dist_at _ _ _ _ r k).trans ?_
  simp only [blk0, blk1, blk2, blk3]
  rfl

theorem first_blk (t : Fin cfg0.N) (r : Fin 512) :
    Plain.First (fun k : Fin 512 => (k0_pay5 (F := Ideal) (iblk m c 0 t) (iblk m c 1 t) (iblk m c 2 t) (iblk m c 3 t)
      (ix2 r k) : EReal)) (Plain.near (drow m c (row t r))) := by
  simp only [dist_blk]
  exact Plain.near_first _

/-- Point `t`'s code numbers are those of the rows' first nearest codes. -/
theorem near_blk (t : Fin cfg0.N) (r : Fin 512) :
    k0_pay7 (F := Ideal) (iblk m c 0 t) (iblk m c 1 t) (iblk m c 2 t) (iblk m c 3 t) (ix2 r 0)
      = BitVec.ofNat 32 (Plain.near (drow m c (row t r))).val :=
  Pay.near_at _ _ _ _ r _ (first_blk m c t r)

/-- Point `t`'s least distances are the distances to the rows' first nearest codes. -/
theorem min_blk (t : Fin cfg0.N) (r : Fin 512) :
    k0_pay9 (F := Ideal) (iblk m c 0 t) (iblk m c 1 t) (iblk m c 2 t) (iblk m c 3 t) (ix3 0 r 0)
      = drow m c (row t r) (Plain.near (drow m c (row t r))) := by
  rw [Pay.box_at, Pay.min_at _ _ _ _ r _ (first_blk m c t r), dist_blk]

/-- The decoded codes computed from point `t`'s blocks. -/
theorem dec_blk (t : Fin cfg0.N) (k : Fin 512) (j : Fin 96) :
    k0_pay3 (F := Ideal) (iblk m c 3 t) (iblk m c 4 t) (iblk m c 5 t) (ix2 k j) = dec m c k j := by
  refine (Pay.dec_at _ _ _ k j).trans ?_
  simp only [blk3, blk4, blk5]
  rfl

theorem scratchA (t : Fin cfg0.N) (h : t.val % 256 = 0) (k : Fin 512) (j : Fin 96) :
    (outsAt0 m c t.val t.isLt).2.2 (ix2 k j) = dec m c k j := by
  rw [outsAt0_A m c t h]
  frame_out
  exact dec_blk m c t k j

theorem scratchB (t : Fin cfg0.N) (h : ¬ t.val % 256 = 0) (k : Fin 512) (j : Fin 96) :
    (outsAt0 m c t.val t.isLt).2.2 (ix2 k j)
      = (outsAt0 m c (t.val - 1) (Nat.lt_of_le_of_lt (Nat.sub_le _ _) t.isLt)).2.2 (ix2 k j) := by
  rw [outsAt0_B m c t h]
  rfl

/-- At every point the table holds the decoded codes. -/
theorem scratch (n : Nat) : ∀ (hn : n < cfg0.N) (k : Fin 512) (j : Fin 96),
    (outsAt0 m c n hn).2.2 (ix2 k j) = dec m c k j := by
  induction n with
  | zero => exact fun hn k j => scratchA m c ⟨0, hn⟩ rfl k j
  | succ n ih =>
    intro hn k j
    by_cases h : (n + 1) % 256 = 0
    · exact scratchA m c ⟨n + 1, hn⟩ h k j
    · exact (scratchB m c ⟨n + 1, hn⟩ h k j).trans (ih _ k j)

/-- Point `t` writes, row by row, the decodings of the rows' first nearest codes. -/
theorem out (t : Fin cfg0.N) (r : Fin 512) (j : Fin 96) :
    (outsAt0 m c t.val t.isLt).1 (ix2 r j) = dec m c (Plain.near (drow m c (row t r))) j := by
  by_cases h : t.val % 256 = 0
  · rw [outsAt0_A m c t h]
    frame_out
    exact (Pay.out_at _ _ r j _ (near_blk m c t r)).trans (dec_blk m c t _ j)
  · rw [outsAt0_B m c t h]
    frame_out
    refine (Pay.out_at _ _ r j _ (near_blk m c t r)).trans ?_
    rw [read_unread_whole]
    exact scratch m c _ _ _ j

/-- What point `t` adds to the loss. -/
def part (t : Fin cfg0.N) : EReal :=
  (∑ r : Fin 512, drow m c (row t r) (Plain.near (drow m c (row t r)))) * Ideal.ofBits .f32 0x34800000#32

theorem lossA (t : Fin cfg0.N) (h : t.val % 256 = 0) :
    (outsAt0 m c t.val t.isLt).2.1 (ix2 0 0) = (0 : EReal) + part m c t := by
  rw [outsAt0_A m c t h]
  frame_out
  rw [Pay.loss_at, Pay.pass, Pay.zero_at]
  simp only [min_blk]
  rfl

theorem lossB (t : Fin cfg0.N) (h : ¬ t.val % 256 = 0) :
    (outsAt0 m c t.val t.isLt).2.1 (ix2 0 0)
      = (outsAt0 m c (t.val - 1) (Nat.lt_of_le_of_lt (Nat.sub_le _ _) t.isLt)).2.1 (ix2 0 0) + part m c t := by
  rw [outsAt0_B m c t h]
  frame_out
  rw [Pay.loss_at, Pay.pass]
  simp only [min_blk]
  rfl

/-- After the last point the loss is the sum of the points' parts. -/
theorem loss (t : Fin cfg0.N) (ht : t.val % 256 = 256 - 1) :
    (outsAt0 m c t.val t.isLt).2.1 (ix2 0 0) = ∑ p : Fin cfg0.N, part m c p := by
  have h := Pipeline.eq_sum_fin_of_reset_step_last (fun n h => ((outsAt0 m c n h).2.1 (ix2 0 0) : EReal)) 256 0 (part m c)
    (lossA m c) (lossB m c) (le_of_eq N_0) t (by have := lt256 t; have : cfg0.N = 256 := N_0; omega)
  rw [zero_add] at h
  exact h

/-- The rows the kernel leaves. -/
theorem final6 : (dats m 0 c).arrAt 6 (cfgs 0).N
    = fun i : S131072x96.Idx => dec m c (Plain.near (drow m c (i 0))) (i 1) := by
  refine (dats m 0 c).arrAt_eq_of_covers 6 _ (by decide +kernel) fun t hf y => ?_
  blk_simp
  rw [after0_6]
  idx_vars y
  refine (out m c t _ _).trans ?_
  have e : ((View.whole main_v3_0).slice (win0_6.rect t)).emb (ix2 y0 y1) = ix2 (row t y0) y1 := by
    blk_ext [idx t, row]
  rw [e]
  rfl

/-- The loss the kernel leaves. -/
theorem final7 : (dats m 0 c).arrAt 7 (cfgs 0).N = fun _ : S1x1.Idx => ∑ p : Fin cfg0.N, part m c p := by
  refine (dats m 0 c).arrAt_eq_of_covers 7 _ (by decide +kernel) fun t hf y => ?_
  blk_simp
  rw [after0_7]
  idx_vars y
  obtain rfl : y0 = 0 := Subsingleton.elim _ _
  obtain rfl : y1 = 0 := Subsingleton.elim _ _
  exact loss m c t ((flush0_7 t).mp hf)

end Cert.KernelIdeal.Val

end
-- ==== Proof.KerOut.lean ====
/- The kernel's two results as the host returns them. -/
module

public import proofs.«01_k».proof.Proof.KerVal

@[expose] public section

set_option maxRecDepth 16384

noncomputable section

namespace Cert.KernelIdeal.Val

open Idealize.ShloMosaic Idealize.ShloMosaic.TcCoe Idealize.SL.Sem
open Idealize.ShloMosaic.Pipeline (Dat Cfg Window)
open Cert.KernelIdeal Cert.KernelIdeal.Gen

theorem tail_v4 (σ : Valuation τ sig (Elt Ideal)) :
    StableHlo.after hostOps1 σ (Proc.devRef .tc main_v4)
      = shapeCast S128x1024x96 (σ (Proc.devRef .tc main_v3_0)) shapeCasts_S131072x96_S128x1024x96 := by
  entry_read
  rfl

theorem tail_v5 (σ : Valuation τ sig (Elt Ideal)) :
    StableHlo.after hostOps1 σ (Proc.devRef .tc main_v5)
      = shapeCast S_ (σ (Proc.devRef .tc main_v3_1)) shapeCasts_S1x1_S_ := by
  entry_read
  rfl

variable (m : (ℓ : Loc nD τ sig) → Buf (Elt Ideal) ℓ) (c : Dev nD)

/-- The reconstruction: at sample `s`, position `t`, the decoding of the row's first nearest code. -/
theorem v4 (s : Fin 128) (t : Fin 1024) (j : Fin 96) :
    Pipeline.afterTail₀ cfgs (dats m) 0 (V0 m) [hostOps1] c main_v4 (ix3 s t j)
      = dec m c (Plain.near (drow m c ⟨s.val * 1024 + t.val, by omega⟩)) j := by
  unfold Pipeline.afterTail₀
  simp only [List.flatten_cons, List.flatten_nil, List.append_nil]
  rw [tail_v4]
  have h := (Pipeline.withArrays_arr spec0 launch0.win.arr_inj c (V0 m c) (fun w => (dats m 0 c).arrAt w (cfgs 0).N) 6).trans (final6 m c)
  change shapeCast S128x1024x96 (Pipeline.withArrays spec0 c (V0 m c) (fun w => (dats m 0 c).arrAt w (cfgs 0).N)
    (Proc.devRef .tc (Pipeline.arrRef spec0 6))) shapeCasts_S131072x96_S128x1024x96 (ix3 s t j) = _
  rw [h]
  pointwise

/-- The loss. -/
theorem v5 : Pipeline.afterTail₀ cfgs (dats m) 0 (V0 m) [hostOps1] c main_v5 ix0 = ∑ p : Fin cfg0.N, part m c p := by
  unfold Pipeline.afterTail₀
  simp only [List.flatten_cons, List.flatten_nil, List.append_nil]
  rw [tail_v5]
  have h := (Pipeline.withArrays_arr spec0 launch0.win.arr_inj c (V0 m c) (fun w => (dats m 0 c).arrAt w (cfgs 0).N) 7).trans (final7 m c)
  change shapeCast S_ (Pipeline.withArrays spec0 c (V0 m c) (fun w => (dats m 0 c).arrAt w (cfgs 0).N)
    (Proc.devRef .tc (Pipeline.arrRef spec0 7))) shapeCasts_S1x1_S_ ix0 = _
  rw [h]
  rfl

end Cert.KernelIdeal.Val

end
-- ==== Proof.PreFin.lean ====
/- What the precondition says: every sample, encoder weight, encoder bias and code is a real number. -/
module

public import proofs.«01_k».proof.Pre_finite
public import proofs.«01_k».proof.Proof.Gen.Pre_finite
public import Idealize.ShloMosaic.Lib.Pointwise
public import Idealize.ShloMosaic.Lib.ReduceAll
public import Idealize.ShloMosaic.PureOps.Ideal

@[expose] public section

set_option maxRecDepth 16384

noncomputable section

namespace Cert.Pre_finite.Read

open Idealize.ShloMosaic Cert.Pre_finite

theorem and_one : ∀ x y : BitVec 1, IntOp.andi x y = 1#1 → x = 1#1 ∧ y = 1#1 := by decide

theorem real_of_abs (x : EReal) (h : Ideal.cmp .olt (max x (-x)) ⊤ = 1#1) : ∃ r : ℝ, x = (r : EReal) := by
  have hlt : max x (-x) < ⊤ := by
    by_contra hn
    simp only [Ideal.cmp, hn, decide_false] at h
    exact absurd h (by decide)
  induction x using EReal.rec with
  | bot => simp at hlt
  | top => simp at hlt
  | coe r => exact ⟨r, rfl⟩

/-- A value whose absolute value is below infinity is a real number. -/
theorem real_of (x : Ideal .f32) (h : FloatOps.cmpf .olt (FloatOps.absf x) (FloatOps.ofBits (F := Ideal) .f32 0x7F800000#32) = 1#1) :
    ∃ r : ℝ, (x : EReal) = (r : EReal) := by
  have ht : (FloatOps.ofBits (F := Ideal) .f32 0x7F800000#32 : EReal) = ⊤ := by
    show Ideal.ofBits .f32 0x7F800000#32 = ⊤
    simp [Ideal.ofBits, Ideal.ieee]
  rw [ht] at h
  exact real_of_abs x h

instance : Subsingleton S_.Idx := ⟨fun _ _ => funext fun a => Fin.elim0 a⟩

/-- Under the precondition the four arrays hold real numbers. -/
theorem reals (X : FVec Ideal S128x1024x96 .f32) (W : FVec Ideal S96x32 .f32) (b : FVec Ideal S32 .f32)
    (C : FVec Ideal S512x32 .f32) (D : FVec Ideal S32x96 .f32) (e : FVec Ideal S96 .f32)
    (h : fn (F := Ideal) X W b C D e = fun _ => 1#1) :
    (∀ i, ∃ r : ℝ, (X i : EReal) = (r : EReal)) ∧ (∀ i, ∃ r : ℝ, (W i : EReal) = (r : EReal))
      ∧ (∀ i, ∃ r : ℝ, (b i : EReal) = (r : EReal)) ∧ (∀ i, ∃ r : ℝ, (C i : EReal) = (r : EReal)) := by
  have h0 := congrFun h ix0
  unfold fn fn_part1 at h0
  obtain ⟨h0, h4⟩ := and_one _ _ h0
  obtain ⟨h0, h3⟩ := and_one _ _ h0
  obtain ⟨h1, h2⟩ := and_one _ _ h0
  refine ⟨fun i => ?_, fun i => ?_, fun i => ?_, fun i => ?_⟩
  · exact real_of _ (Host.reduce_andi_all _ _ _ _ _ h1 i)
  · exact real_of _ (Host.reduce_andi_all _ _ _ _ _ h2 i)
  · exact real_of _ (Host.reduce_andi_all _ _ _ _ _ h3 i)
  · exact real_of _ (Host.reduce_andi_all _ _ _ _ _ h4 i)

end Cert.Pre_finite.Read

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.RefTerm
public import proofs.«01_k».proof.Proof.RefFin
public import proofs.«01_k».proof.Proof.KerOut
public import proofs.«01_k».proof.Proof.PreFin
public import Idealize.ShloMosaic.Lib.Claim
public import Idealize.ShloMosaic.Lib.Pointwise
public import Idealize.ShloMosaic.Lib.Pipeline.ValueKit
public import Idealize.ShloMosaic.Adequacy
public import Idealize.ShloMosaic.Init

@[expose] public section

set_option maxRecDepth 16384

noncomputable section

namespace Cert.Proof

open Idealize.ShloMosaic Idealize.SL.Sem

/-- The plain model finishes, with nothing left in flight. -/
theorem frameRef : Cert.quiescent_ReferenceIdeal := by
  intro m g _
  refine (θ_run _ _ _).mono (fun r h => ⟨fun c => ?_, funext fun x => ?_⟩) (ReferenceIdeal.Term.run m g)
  · exact (h c).2.2
  · obtain ⟨_, x⟩ := x
    cases x with
    | reg s => exact s.elim0
    | dma s => exact s.elim0

/-- Under the precondition the kernel's reconstruction is the plain model's. -/
theorem reco_eq (m : (ℓ : Loc KernelIdeal.nD KernelIdeal.τ KernelIdeal.sig) → Buf (Elt Ideal) ℓ)
    (hpre : Pre_KernelIdeal_finite m) (c : Dev KernelIdeal.nD) :
    ReferenceIdeal.Term.reco
        (ReferenceIdeal.Term.codesOf (m (c.tc.loc KernelIdeal.main_arg0)) (m (c.tc.loc KernelIdeal.main_arg1))
          (m (c.tc.loc KernelIdeal.main_arg2)) (m (c.tc.loc KernelIdeal.main_arg3)))
        (ReferenceIdeal.Term.enc (m (c.tc.loc KernelIdeal.main_arg0)) (m (c.tc.loc KernelIdeal.main_arg1))
          (m (c.tc.loc KernelIdeal.main_arg2)))
        (m (c.tc.loc KernelIdeal.main_arg4)) (m (c.tc.loc KernelIdeal.main_arg5))
      = Pipeline.afterTail₀ KernelIdeal.cfgs (KernelIdeal.Gen.dats m) 0 (KernelIdeal.Gen.V0 m) [KernelIdeal.Gen.hostOps1] c
          KernelIdeal.main_v4 := by
  obtain ⟨hX, hW, hb, hC⟩ := Pre_finite.Read.reals _ _ _ _ _ _ (hpre c)
  refine funext fun i : ReferenceIdeal.S128x1024x96.Idx => ?_
  idx_vars i
  exact (ReferenceIdeal.Term.reco_row _ _ hX hW hb hC _ _ _).trans (KernelIdeal.Val.v4 m c _ _ _).symm

/-- Under the precondition the kernel's loss is the plain model's. -/
theorem loss_eq (m : (ℓ : Loc KernelIdeal.nD KernelIdeal.τ KernelIdeal.sig) → Buf (Elt Ideal) ℓ)
    (hpre : Pre_KernelIdeal_finite m) (c : Dev KernelIdeal.nD) :
    ReferenceIdeal.Term.loss
        (ReferenceIdeal.Term.codesOf (m (c.tc.loc KernelIdeal.main_arg0)) (m (c.tc.loc KernelIdeal.main_arg1))
          (m (c.tc.loc KernelIdeal.main_arg2)) (m (c.tc.loc KernelIdeal.main_arg3)))
        (ReferenceIdeal.Term.enc (m (c.tc.loc KernelIdeal.main_arg0)) (m (c.tc.loc KernelIdeal.main_arg1))
          (m (c.tc.loc KernelIdeal.main_arg2)))
      = Pipeline.afterTail₀ KernelIdeal.cfgs (KernelIdeal.Gen.dats m) 0 (KernelIdeal.Gen.V0 m) [KernelIdeal.Gen.hostOps1] c
          KernelIdeal.main_v5 := by
  obtain ⟨hX, hW, hb, hC⟩ := Pre_finite.Read.reals _ _ _ _ _ _ (hpre c)
  refine funext fun i : ReferenceIdeal.S_.Idx => ?_
  obtain rfl : i = ix0 := Subsingleton.elim _ _
  exact (ReferenceIdeal.Term.loss_row hX hW hb hC KernelIdeal.cfg0.N KernelIdeal.Gen.N_0).trans (KernelIdeal.Val.v5 m c).symm

/-- From memories that agree on the arguments and satisfy the precondition, the kernel and the plain model finish with the
    same reconstruction and the same loss, and leave the arguments as they were. -/
theorem algebraic : Cert.algebraic_KernelIdeal_ReferenceIdeal_pre_finite := by
  pair_intro
  · run_from Cert.KernelIdeal.Gen.run_main m g
    · exact KernelIdeal.Gen.W_main_arg0 m _ _
    · exact KernelIdeal.Gen.W_main_arg2 m _ _
    · exact KernelIdeal.Gen.W_main_arg5 m _ _
  · run_from Cert.ReferenceIdeal.Term.run m' g'
    · exact reco_eq m hpre _
    · exact loss_eq m hpre _

/-- The claim. -/
theorem claim : Cert.Claim :=
  ⟨Cert.Kernel.Gen.facts, Cert.KernelIdeal.Gen.facts, Cert.ReferenceIdeal.Gen.facts, Cert.Pre_finite.Gen.facts,
   fun m g _ => Cert.Kernel.Gen.frame m g,
   fun m g _ => Cert.KernelIdeal.Gen.frame m g,
   fun m g _ => Cert.KernelIdeal.Gen.frame m g,
   frameRef, fun m g _ => frameRef m g trivial, trivial, algebraic⟩

end Cert.Proof

end
